-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x128x384 : Shape := ⟨4, ![16, 3, 128, 384]⟩
abbrev S1 : Shape := ⟨1, ![1]⟩
abbrev S4x3x128x384 : Shape := ⟨4, ![4, 3, 128, 384]⟩
abbrev S2x8x384 : Shape := ⟨3, ![2, 8, 384]⟩
abbrev S16x384 : Shape := ⟨2, ![16, 384]⟩
abbrev S1x1x16x384 : Shape := ⟨4, ![1, 1, 16, 384]⟩
abbrev S8x384 : Shape := ⟨2, ![8, 384]⟩
abbrev S1x8x384 : Shape := ⟨3, ![1, 8, 384]⟩
abbrev S1x1x1 : Shape := ⟨3, ![1, 1, 1]⟩

abbrev nBuf : Space → Nat
  | .hbm => 3
  | .vmem => 5
  | .smem => 1
  | _ => 0

abbrev bufTy : (tb : Table) → Fin (tcTables nBuf tb) → BufTy
  | .hbm, ⟨0, _⟩ => ⟨S16x3x128x384, .f32⟩
  | .hbm, ⟨1, _⟩ => ⟨S16x3x128x384, .f32⟩
  | .hbm, ⟨2, _⟩ => ⟨S1, .f32⟩
  | .local _ .vmem, ⟨0, _⟩ => ⟨S4x3x128x384, .f32⟩
  | .local _ .vmem, ⟨1, _⟩ => ⟨S4x3x128x384, .f32⟩
  | .local _ .vmem, ⟨2, _⟩ => ⟨S4x3x128x384, .f32⟩
  | .local _ .vmem, ⟨3, _⟩ => ⟨S4x3x128x384, .f32⟩
  | .local _ .vmem, ⟨4, _⟩ => ⟨S2x8x384, .f32⟩
  | .local _ .smem, ⟨0, _⟩ => ⟨S1, .f32⟩
  | _, _ => ⟨S16x3x128x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) (c0_i32_8 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v16 : BitVec 32 := Scalar.muli arg5 c2_i32
  let v17 : BitVec 32 := Scalar.addi v16 c0_i32_8
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c8_i32 : BitVec 32 := 8#32
  let c0_i32_11 : BitVec 32 := 0#32
  let v24 : BitVec 1 := Scalar.cmpi .sgt c8_i32 c0_i32_11
  let v25 : BitVec 32 := Scalar.extui v24
  let c0_i32_12 : BitVec 32 := 0#32
  let v26 : BitVec 1 := Scalar.cmpi .slt c8_i32 c0_i32_12
  let v27 : BitVec 32 := Scalar.extui v26
  let v28 : BitVec 32 := Scalar.subi v25 v27
  let v29 : BitVec 1 := Scalar.cmpi .ne v23 v28
  let v30 : BitVec 32 := Scalar.remsi v17 c8_i32
  let c0_i32_13 : BitVec 32 := 0#32
  let v31 : BitVec 1 := Scalar.cmpi .ne v30 c0_i32_13
  let v32 : BitVec 1 := Scalar.andi v29 v31
  let v18 : BitVec 32 := Scalar.divsi v17 c8_i32
  let c1_i32_14 : BitVec 32 := 1#32
  let v33 : BitVec 32 := Scalar.subi v18 c1_i32_14
  let v34 : BitVec 32 := Scalar.select v32 v33 v18
  let v46 : Index := Scalar.indexCast v34
  let c0 : Index := 0#32
  let c8_i32_15 : BitVec 32 := 8#32
  let c0_i32_16 : BitVec 32 := 0#32
  let v35 : BitVec 1 := Scalar.cmpi .eq c8_i32_15 c0_i32_16
  let c1_i32_17 : BitVec 32 := 1#32
  let v36 : BitVec 32 := Scalar.select v35 c1_i32_17 c8_i32_15
  let v37 : BitVec 32 := Scalar.remsi v17 v36
  let c0_i32_19 : BitVec 32 := 0#32
  let v39 : BitVec 1 := Scalar.cmpi .slt v37 c0_i32_19
  let c0_i32_20 : BitVec 32 := 0#32
  let v40 : BitVec 1 := Scalar.cmpi .slt v36 c0_i32_20
  let v41 : BitVec 1 := Scalar.xori v39 v40
  let c0_i32_18 : BitVec 32 := 0#32
  let v38 : BitVec 1 := Scalar.cmpi .ne v37 c0_i32_18
  let v42 : BitVec 1 := Scalar.andi v41 v38
  let v43 : BitVec 32 := Scalar.addi v37 v36
  let v44 : BitVec 32 := Scalar.select v42 v43 v37
  let c16_i32_21 : BitVec 32 := 16#32
  let v45 : BitVec 32 := Scalar.muli v44 c16_i32_21
  let v47 : Index := Scalar.indexCast v45
  let c0_22 : Index := 0#32
  ![v46.toNat, 0, v47.toNat, 0]
def k0_off2 (k0_t1 : Fin k0_t1_loop.trips) (c0_i32_8 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v16 : BitVec 32 := Scalar.muli arg5 c2_i32
  let v17 : BitVec 32 := Scalar.addi v16 c0_i32_8
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c8_i32 : BitVec 32 := 8#32
  let c0_i32_11 : BitVec 32 := 0#32
  let v24 : BitVec 1 := Scalar.cmpi .sgt c8_i32 c0_i32_11
  let v25 : BitVec 32 := Scalar.extui v24
  let c0_i32_12 : BitVec 32 := 0#32
  let v26 : BitVec 1 := Scalar.cmpi .slt c8_i32 c0_i32_12
  let v27 : BitVec 32 := Scalar.extui v26
  let v28 : BitVec 32 := Scalar.subi v25 v27
  let v29 : BitVec 1 := Scalar.cmpi .ne v23 v28
  let v30 : BitVec 32 := Scalar.remsi v17 c8_i32
  let c0_i32_13 : BitVec 32 := 0#32
  let v31 : BitVec 1 := Scalar.cmpi .ne v30 c0_i32_13
  let v32 : BitVec 1 := Scalar.andi v29 v31
  let v18 : BitVec 32 := Scalar.divsi v17 c8_i32
  let c1_i32_14 : BitVec 32 := 1#32
  let v33 : BitVec 32 := Scalar.subi v18 c1_i32_14
  let v34 : BitVec 32 := Scalar.select v32 v33 v18
  let v92 : Index := Scalar.indexCast v34
  let c1 : Index := 1#32
  let c8_i32_15 : BitVec 32 := 8#32
  let c0_i32_16 : BitVec 32 := 0#32
  let v35 : BitVec 1 := Scalar.cmpi .eq c8_i32_15 c0_i32_16
  let c1_i32_17 : BitVec 32 := 1#32
  let v36 : BitVec 32 := Scalar.select v35 c1_i32_17 c8_i32_15
  let v37 : BitVec 32 := Scalar.remsi v17 v36
  let c0_i32_19 : BitVec 32 := 0#32
  let v39 : BitVec 1 := Scalar.cmpi .slt v37 c0_i32_19
  let c0_i32_20 : BitVec 32 := 0#32
  let v40 : BitVec 1 := Scalar.cmpi .slt v36 c0_i32_20
  let v41 : BitVec 1 := Scalar.xori v39 v40
  let c0_i32_18 : BitVec 32 := 0#32
  let v38 : BitVec 1 := Scalar.cmpi .ne v37 c0_i32_18
  let v42 : BitVec 1 := Scalar.andi v41 v38
  let v43 : BitVec 32 := Scalar.addi v37 v36
  let v44 : BitVec 32 := Scalar.select v42 v43 v37
  let c16_i32_40 : BitVec 32 := 16#32
  let v91 : BitVec 32 := Scalar.muli v44 c16_i32_40
  let v93 : Index := Scalar.indexCast v91
  let c0_41 : Index := 0#32
  ![v92.toNat, 1, v93.toNat, 0]
def k0_off3 (k0_t1 : Fin k0_t1_loop.trips) (c0_i32_8 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v16 : BitVec 32 := Scalar.muli arg5 c2_i32
  let v17 : BitVec 32 := Scalar.addi v16 c0_i32_8
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c8_i32 : BitVec 32 := 8#32
  let c0_i32_11 : BitVec 32 := 0#32
  let v24 : BitVec 1 := Scalar.cmpi .sgt c8_i32 c0_i32_11
  let v25 : BitVec 32 := Scalar.extui v24
  let c0_i32_12 : BitVec 32 := 0#32
  let v26 : BitVec 1 := Scalar.cmpi .slt c8_i32 c0_i32_12
  let v27 : BitVec 32 := Scalar.extui v26
  let v28 : BitVec 32 := Scalar.subi v25 v27
  let v29 : BitVec 1 := Scalar.cmpi .ne v23 v28
  let v30 : BitVec 32 := Scalar.remsi v17 c8_i32
  let c0_i32_13 : BitVec 32 := 0#32
  let v31 : BitVec 1 := Scalar.cmpi .ne v30 c0_i32_13
  let v32 : BitVec 1 := Scalar.andi v29 v31
  let v18 : BitVec 32 := Scalar.divsi v17 c8_i32
  let c1_i32_14 : BitVec 32 := 1#32
  let v33 : BitVec 32 := Scalar.subi v18 c1_i32_14
  let v34 : BitVec 32 := Scalar.select v32 v33 v18
  let v138 : Index := Scalar.indexCast v34
  let c2 : Index := 2#32
  let c8_i32_15 : BitVec 32 := 8#32
  let c0_i32_16 : BitVec 32 := 0#32
  let v35 : BitVec 1 := Scalar.cmpi .eq c8_i32_15 c0_i32_16
  let c1_i32_17 : BitVec 32 := 1#32
  let v36 : BitVec 32 := Scalar.select v35 c1_i32_17 c8_i32_15
  let v37 : BitVec 32 := Scalar.remsi v17 v36
  let c0_i32_19 : BitVec 32 := 0#32
  let v39 : BitVec 1 := Scalar.cmpi .slt v37 c0_i32_19
  let c0_i32_20 : BitVec 32 := 0#32
  let v40 : BitVec 1 := Scalar.cmpi .slt v36 c0_i32_20
  let v41 : BitVec 1 := Scalar.xori v39 v40
  let c0_i32_18 : BitVec 32 := 0#32
  let v38 : BitVec 1 := Scalar.cmpi .ne v37 c0_i32_18
  let v42 : BitVec 1 := Scalar.andi v41 v38
  let v43 : BitVec 32 := Scalar.addi v37 v36
  let v44 : BitVec 32 := Scalar.select v42 v43 v37
  let c16_i32_59 : BitVec 32 := 16#32
  let v137 : BitVec 32 := Scalar.muli v44 c16_i32_59
  let v139 : Index := Scalar.indexCast v137
  let c0_60 : Index := 0#32
  ![v138.toNat, 2, v139.toNat, 0]
def k0_cond3 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_7 : BitVec 32 := 0#32
  let v15 : BitVec 1 := Scalar.cmpi .ne v14 c0_i32_7
  v15

def cc0_transform_0 (i : grid0.Coords) : Fin 4 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x3x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S16x3x128x384 : Shape := ⟨4, ![16, 3, 128, 384]⟩
abbrev S_ : Shape := ⟨0, ![]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S16x3x128x384, .f32⟩
  | .hbm, ⟨1, _⟩ => ⟨S16x3x128x384, .f32⟩
  | .hbm, ⟨2, _⟩ => ⟨S16x3x128x384, .f32⟩
  | .hbm, ⟨3, _⟩ => ⟨S16x3x128x384, .f32⟩
  | .hbm, ⟨4, _⟩ => ⟨S_, .f32⟩
  | .hbm, ⟨5, _⟩ => ⟨S16x3x128x384, .f32⟩
  | .hbm, ⟨6, _⟩ => ⟨S16x3x128x384, .f32⟩
  | .hbm, ⟨7, _⟩ => ⟨S_, .f32⟩
  | .hbm, ⟨8, _⟩ => ⟨S16x3x128x384, .f32⟩
  | .hbm, ⟨9, _⟩ => ⟨S16x3x128x384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x3x128x384, .f32⟩
  | .hbm, ⟨15, _⟩ => ⟨S16x3x128x384, .f32⟩
  | .hbm, ⟨16, _⟩ => ⟨S16x3x128x384, .f32⟩
  | .hbm, ⟨17, _⟩ => ⟨S16x3x128x384, .f32⟩
  | .hbm, ⟨18, _⟩ => ⟨S_, .f32⟩
  | .hbm, ⟨19, _⟩ => ⟨S16x3x128x384, .f32⟩
  | .hbm, ⟨20, _⟩ => ⟨S16x3x128x384, .i1⟩
  | .hbm, ⟨21, _⟩ => ⟨S16x3x128x384, .f32⟩
  | .hbm, ⟨22, _⟩ => ⟨S_, .f32⟩
  | .hbm, ⟨23, _⟩ => ⟨S16x3x128x384, .f32⟩
  | .hbm, ⟨24, _⟩ => ⟨S16x3x128x384, .f32⟩
  | .hbm, ⟨25, _⟩ => ⟨S_, .f32⟩
  | .hbm, ⟨26, _⟩ => ⟨S16x3x128x384, .f32⟩
  | .hbm, ⟨27, _⟩ => ⟨S16x3x128x384, .f32⟩
  | .hbm, ⟨28, _⟩ => ⟨S_, .f32⟩
  | .hbm, ⟨29, _⟩ => ⟨S16x3x128x384, .f32⟩
  | .hbm, ⟨30, _⟩ => ⟨S16x3x128x384, .f32⟩
  | .hbm, ⟨31, _⟩ => ⟨S16x3x128x384, .f32⟩
  | .hbm, ⟨32, _⟩ => ⟨S_, .f32⟩
  | .hbm, ⟨33, _⟩ => ⟨S16x3x128x384, .f32⟩
  | .hbm, ⟨34, _⟩ => ⟨S16x3x128x384, .f32⟩
  | .hbm, ⟨35, _⟩ => ⟨S_, .f32⟩
  | .hbm, ⟨36, _⟩ => ⟨S16x3x128x384, .f32⟩
  | .hbm, ⟨37, _⟩ => ⟨S16x3x128x384, .f32⟩
  | .hbm, ⟨38, _⟩ => ⟨S16x3x128x384, .f32⟩
  | .hbm, ⟨39, _⟩ => ⟨S16x3x128x384, .f32⟩
  | .hbm, ⟨40, _⟩ => ⟨S_, .f32⟩
  | .hbm, ⟨41, _⟩ => ⟨S16x3x128x384, .f32⟩
  | .hbm, ⟨42, _⟩ => ⟨S16x3x128x384, .f32⟩
  | .hbm, ⟨43, _⟩ => ⟨S16x3x128x384, .f32⟩
  | .hbm, ⟨44, _⟩ => ⟨S_, .f32⟩
  | .hbm, ⟨45, _⟩ => ⟨S16x3x128x384, .f32⟩
  | .hbm, ⟨46, _⟩ => ⟨S16x3x128x384, .f32⟩
  | .hbm, ⟨47, _⟩ => ⟨S16x3x128x384, .f32⟩
  | .hbm, ⟨48, _⟩ => ⟨S16x3x128x384, .f32⟩
  | .hbm, ⟨49, _⟩ => ⟨S16x3x128x384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1, .f32⟩
  | _, _ => ⟨S16x3x128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_cst_6 : Ref sig .tc := ⟨.hbm, 25, rfl⟩
abbrev main_v13 : Ref sig .tc := ⟨.hbm, 26, rfl⟩
abbrev main_v14 : Ref sig .tc := ⟨.hbm, 27, rfl⟩
abbrev main_cst_7 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_8 : Ref sig .tc := ⟨.hbm, 32, rfl⟩
abbrev main_v18 : Ref sig .tc := ⟨.hbm, 33, rfl⟩
abbrev main_v19 : Ref sig .tc := ⟨.hbm, 34, rfl⟩
abbrev main_cst_9 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_10 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_11 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_cst_13 : Ref sig .tc := ⟨.hbm, 52, rfl⟩
abbrev main_v33 : Ref sig .tc := ⟨.hbm, 53, rfl⟩
abbrev main_cst_14 : Ref sig .tc := ⟨.hbm, 54, rfl⟩
abbrev main_v34 : Ref sig .tc := ⟨.hbm, 55, rfl⟩
abbrev main_cst_15 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Term.lean ====
/- The pointwise mathematics of the focal loss over the extended reals: the kernel's term of one pixel — one logarithm of
   one clipped probability, the probability taken from a hyperbolic tangent, the logarithm in base two — times `log 2` is
   the reference's positive term plus its negative term, at every logit and every target, the infinities included. -/
module

public import Idealize.ShloMosaic.PureOps.Ideal.Laws
public import Idealize.ShloMosaic.PureOps.IdealRules
public import Idealize.ShloMosaic.Lib.ValueIdx

@[expose] public section

noncomputable section

namespace Cert.Focal

open Idealize.ShloMosaic

/-! ## The literals -/

/-- The lower clipping bound: the float nearest to `1e-4`, as a real. -/
def loR : ℝ := 13743895 / 2 ^ 37

/-- The lower bound is positive. -/
theorem loR_pos : 0 < loR := by unfold loR; norm_num

/-- The lower bound is less than one half. -/
theorem loR_lt_half : loR < 1 / 2 := by unfold loR; norm_num

/-- The literal of the lower clipping bound. -/
theorem lit_lo : Ideal.ofBits .f32 0x38D1B717#32 = ((loR : ℝ) : EReal) := by
  simp [Ideal.ofBits, Ideal.ieee, -EReal.coe_mul, loR]; norm_num

/-- The literal one. -/
theorem lit_one : Ideal.ofBits .f32 0x3F800000#32 = (1 : EReal) := by
  simp [Ideal.ofBits, Ideal.ieee, -EReal.coe_mul]; norm_num

/-- The literal one half. -/
theorem lit_half : Ideal.ofBits .f32 0x3F000000#32 = (((1 / 2 : ℝ)) : EReal) := by
  simp [Ideal.ofBits, Ideal.ieee, -EReal.coe_mul]; norm_num

/-- The literal two. -/
theorem lit_two : Ideal.ofBits .f32 0x40000000#32 = ((2 : ℝ) : EReal) := by
  simp [Ideal.ofBits, Ideal.ieee, -EReal.coe_mul]; norm_num

/-- The literal four. -/
theorem lit_four : Ideal.ofBits .f32 0x40800000#32 = ((4 : ℝ) : EReal) := by
  simp [Ideal.ofBits, Ideal.ieee, -EReal.coe_mul]; norm_num

/-! ## The two programs' terms of one pixel -/

/-- Clipping to the interval between the two bounds. -/
def clip (p : EReal) : EReal := min (1 - (loR : EReal)) (max (loR : EReal) p)

/-- The signed half-angle tangent: the target says which of the two probabilities is meant. -/
def signed (x t : EReal) : EReal :=
  if 1 ≤ t then Ideal.tanh (((1 / 2 : ℝ) : EReal) * x) else 0 - Ideal.tanh (((1 / 2 : ℝ) : EReal) * x)

/-- The clipped probability the kernel takes the logarithm of. -/
def arg (x t : EReal) : EReal := clip (((1 / 2 : ℝ) : EReal) + ((1 / 2 : ℝ) : EReal) * signed x t)

/-- The kernel's weight of a target: one at a peak, the fourth power by two squarings elsewhere. -/
def weight (t : EReal) : EReal := if 1 ≤ t then 1 else (1 - t) * (1 - t) * ((1 - t) * (1 - t))

/-- The kernel's term of a pixel with logit `x` and target `t`. -/
def kterm (x t : EReal) : EReal :=
  Ideal.log (arg x t) * (((Real.log 2)⁻¹ : ℝ) : EReal) * ((1 - arg x t) * (1 - arg x t) * weight t)

/-- The count of a pixel: one at a peak. -/
def count (t : EReal) : EReal := if 1 ≤ t then 1 else 0

/-- The reference's clipped probability. -/
def prob (x : EReal) : EReal := clip (Ideal.div 1 (1 + Ideal.exp (-x)))

/-- The reference's positive term. -/
def posTerm (x t : EReal) : EReal :=
  Ideal.log (prob x) * Ideal.pow (1 - prob x) ((2 : ℝ) : EReal) * count t

/-- The reference's indicator of a pixel that is no peak. -/
def other (t : EReal) : EReal := if t < 1 then 1 else 0

/-- The reference's negative term. -/
def negTerm (x t : EReal) : EReal :=
  Ideal.log (1 - prob x) * Ideal.pow (prob x) ((2 : ℝ) : EReal) * Ideal.pow (1 - t) ((4 : ℝ) : EReal) * other t

/-! ## The probability -/

/-- The logistic function as a shifted hyperbolic tangent of the half argument, over the reals. -/
theorem tanh_half (r : ℝ) : 1 / 2 + 1 / 2 * Real.tanh (1 / 2 * r) = (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [h1]
  have ha := Real.exp_pos (1 / 2 * r)
  have hb := Real.exp_pos (-(1 / 2 * r))
  generalize Real.exp (1 / 2 * r) = a at *
  generalize Real.exp (-(1 / 2 * r)) = b at *
  have h3 : a + b ≠ 0 := by positivity
  have h4 : 1 + b * b ≠ 0 := by positivity
  field_simp
  nlinarith

/-- At every logit the probability is one real number: the reference's quotient is it, and the kernel's two halves are it
    and its complement. -/
theorem exists_prob (x : EReal) : ∃ p : ℝ, Ideal.div 1 (1 + Ideal.exp (-x)) = (p : EReal)
    ∧ ((1 / 2 : ℝ) : EReal) + ((1 / 2 : ℝ) : EReal) * Ideal.tanh (((1 / 2 : ℝ) : EReal) * x) = (p : EReal)
    ∧ ((1 / 2 : ℝ) : EReal) + ((1 / 2 : ℝ) : EReal) * (0 - Ideal.tanh (((1 / 2 : ℝ) : EReal) * x))
      = ((1 - p : ℝ) : EReal) := by
  have key : ∀ s p : ℝ, 1 / 2 + 1 / 2 * s = p →
      ((1 / 2 : ℝ) : EReal) + ((1 / 2 : ℝ) : EReal) * (s : EReal) = (p : EReal)
      ∧ ((1 / 2 : ℝ) : EReal) + ((1 / 2 : ℝ) : EReal) * (0 - (s : EReal)) = ((1 - p : ℝ) : EReal) := by
    rintro s p rfl
    constructor
    · rw [← EReal.coe_mul, ← EReal.coe_add]
    · rw [← EReal.coe_zero, ← EReal.coe_sub, ← EReal.coe_mul, ← EReal.coe_add]; congr 1; ring
  induction x with
  | bot =>
    refine ⟨0, ?_, ?_⟩
    · exact (show _ = Ideal.logistic ⊥ from rfl).trans (by simp)
    · rw [EReal.coe_mul_bot_of_pos (by norm_num), Ideal.tanh_bot]
      exact key (-1) 0 (by norm_num)
  | top =>
    refine ⟨1, ?_, ?_⟩
    · exact (show _ = Ideal.logistic ⊤ from rfl).trans (by simp)
    · rw [EReal.coe_mul_top_of_pos (by norm_num), Ideal.tanh_top]
      exact key 1 1 (by norm_num)
  | coe r =>
    refine ⟨(1 + Real.exp (-r))⁻¹, ?_, ?_⟩
    · exact (show _ = Ideal.logistic r from rfl).trans (by simp)
    · rw [← EReal.coe_mul, Ideal.tanh_coe]
      exact key _ _ (tanh_half r)

/-- Clipping over the reals. -/
def clipR (p : ℝ) : ℝ := min (1 - loR) (max loR p)

/-- Clipping a real is the real clipping. -/
theorem clip_coe (p : ℝ) : clip (p : EReal) = (clipR p : EReal) := by
  unfold clip clipR
  rw [← EReal.coe_one, ← EReal.coe_sub, EReal.coe_strictMono.monotone.map_min, EReal.coe_strictMono.monotone.map_max]

/-- The clipping interval is symmetric about one half, so clipping commutes with the complement. -/
theorem clipR_compl (p : ℝ) : clipR (1 - p) = 1 - clipR p := by
  unfold clipR
  have := loR_lt_half
  rcases le_total loR p with h | h <;> rcases le_total p (1 - loR) with h' | h'
  · rw [max_eq_right h, min_eq_right h', max_eq_right (by linarith), min_eq_right (by linarith)]
  · rw [max_eq_right h, min_eq_left h', max_eq_left (by linarith), min_eq_right (by linarith)]; ring
  · rw [max_eq_left h, min_eq_right (show loR ≤ 1 - loR by linarith), max_eq_right (by linarith),
      min_eq_left (by linarith)]
  · linarith

/-- A clipped real is positive. -/
theorem clipR_pos (p : ℝ) : 0 < clipR p := by
  unfold clipR
  have := loR_pos; have := loR_lt_half
  exact lt_min (by linarith) (lt_max_of_lt_left loR_pos)

/-- A clipped real is less than one. -/
theorem clipR_lt_one (p : ℝ) : clipR p < 1 :=
  lt_of_le_of_lt (min_le_left _ _) (by have := loR_pos; linarith)

/-! ## The law of one pixel -/

/-- The kernel's term in base-two logarithms, scaled by `log 2`, is the reference's two terms. -/
theorem kterm_mul_log_two (x t : EReal) :
    kterm x t * ((Real.log 2 : ℝ) : EReal) = posTerm x t + negTerm x t := by
  obtain ⟨p, hp, hk, hk'⟩ := exists_prob x
  have hl2 : Real.log 2 ≠ 0 := (Real.log_pos (by norm_num)).ne'
  have hc := clipR_pos p
  have hc' := clipR_lt_one p
  have hprob : prob x = (clipR p : EReal) := by rw [prob, hp, clip_coe]
  have hlog : ∀ q : ℝ, 0 < q → Ideal.log (q : EReal) = ((Real.log q : ℝ) : EReal) := fun q hq => by
    rw [Ideal.log_coe, if_neg (not_le.mpr hq)]
  have hsub : ∀ q : ℝ, (1 : EReal) - (q : EReal) = ((1 - q : ℝ) : EReal) := fun q => by
    rw [← EReal.coe_one, ← EReal.coe_sub]
  have hpow : ∀ q : ℝ, Ideal.pow (q : EReal) ((2 : ℝ) : EReal) = ((q * q : ℝ) : EReal) := fun q => by
    rw [Ideal.pow_coe_coe]; congr 1
    exact (Real.rpow_two q).trans (sq q)
  by_cases ht : 1 ≤ t
  · have harg : arg x t = (clipR p : EReal) := by rw [arg, signed, if_pos ht, hk, clip_coe]
    have hw : weight t = 1 := if_pos ht
    have hn : negTerm x t = 0 := by rw [negTerm, other, if_neg (not_lt.mpr ht), mul_zero]
    rw [hn, add_zero, kterm, posTerm, count, if_pos ht, harg, hprob, hw, hsub, hlog _ hc, hpow, mul_one, mul_one]
    simp only [← EReal.coe_mul]
    congr 1
    field_simp
  · have ht' : t < 1 := not_le.mp ht
    have harg : arg x t = ((1 - clipR p : ℝ) : EReal) := by
      rw [arg, signed, if_neg ht, hk', clip_coe, clipR_compl]
    have hw : weight t = (1 - t) * (1 - t) * ((1 - t) * (1 - t)) := if_neg ht
    have hp0 : posTerm x t = 0 := by rw [posTerm, count, if_neg ht, mul_zero]
    have h1 : 0 < 1 - clipR p := by linarith
    have e : (1 - (1 - clipR p)) = clipR p := by ring
    rw [hp0, zero_add, kterm, negTerm, other, if_pos ht', harg, hprob, hw, hsub, hsub, e, hlog _ h1, hpow, mul_one]
    have hneg : Real.log (1 - clipR p) < 0 := Real.log_neg h1 (by linarith)
    have hl2' : 0 < (Real.log 2)⁻¹ := inv_pos.mpr (Real.log_pos (by norm_num))
    induction t with
    | top => simp at ht
    | bot =>
      have h2 : (1 : EReal) - ⊥ = ⊤ := by rw [← EReal.coe_one]; exact EReal.coe_sub_bot 1
      have hcc : 0 < clipR p * clipR p := mul_pos hc hc
      rw [h2, Ideal.pow_top, if_pos (by exact_mod_cast (by norm_num : (0 : ℝ) < 4)), EReal.top_mul_top,
        EReal.top_mul_top, ← EReal.coe_mul, ← EReal.coe_mul, EReal.coe_mul_top_of_pos hcc, ← EReal.coe_mul,
        EReal.coe_mul_top_of_neg (mul_neg_of_neg_of_pos hneg hl2'),
        EReal.coe_mul_top_of_neg (mul_neg_of_neg_of_pos hneg hcc),
        EReal.bot_mul_coe_of_pos (Real.log_pos (by norm_num))]
    | coe r =>
      have hpow4 : Ideal.pow ((1 - r : ℝ) : EReal) ((4 : ℝ) : EReal)
          = (((1 - r) * (1 - r) * ((1 - r) * (1 - r)) : ℝ) : EReal) := by
        rw [Ideal.pow_coe_coe]; congr 1
        have h4 : Real.rpow (1 - r) ((4 : ℕ) : ℝ) = (1 - r) ^ 4 := Real.rpow_natCast _ 4
        rw [Nat.cast_ofNat] at h4
        rw [h4]; ring
      rw [hsub, hpow4]
      simp only [← EReal.coe_mul]
      congr 1
      field_simp

/-- A nonnegative real factor distributes over a finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr)
      (EReal.coe_ne_top r), mul_comm,
      mul_comm (r : EReal)]

/-- The whole law: the sum of the kernel's terms, scaled by `log 2`, is the sum of the positive terms plus the sum of the
    negative terms. -/
theorem sum_kterm_mul_log_two {ι : Type*} [Fintype ι] (x t : ι → EReal) :
    (∑ i, kterm (x i) (t i)) * ((Real.log 2 : ℝ) : EReal) = ∑ i, posTerm (x i) (t i) + ∑ i, negTerm (x i) (t i) := by
  rw [sum_mul_coe _ _ _ (Real.log_pos (by norm_num)).le, ← Finset.sum_add_distrib]
  exact Finset.sum_congr rfl fun i _ => kterm_mul_log_two (x i) (t i)

end Cert.Focal

end
-- ==== Proof.Slab.lean ====
/- One slab of the kernel's loop over the extended reals: what the loop adds to the carried pair for a slab it loads, index
   by index, and by how much that raises the totals of the pair. -/
module

public import proofs.«01_k».proof.Proof.Term
public import proofs.«01_k».proof.Proof.Gen.KernelIdeal.Skeleton

@[expose] public section

noncomputable section

namespace Cert.Focal

open Idealize.ShloMosaic
open Cert.KernelIdeal Cert.KernelIdeal.Gen

/-- A value carried by the loop. -/
abbrev Carry : Type := FVec Ideal S16x384 .f32

/-- A slab as the loop loads it. -/
abbrev Slab : Type := Vec Ideal S1x1x16x384 .f32

/-! ## The payloads read at an index -/

/-- The kernel's term of a pixel as the payloads spell it, literals and comparison words in place. -/
def rawTerm (x t : EReal) : EReal :=
  let half := Ideal.ofBits .f32 0x3F000000#32
  let one := Ideal.ofBits .f32 0x3F800000#32
  let zero := Ideal.ofBits .f32 0x00000000#32
  let lo := Ideal.ofBits .f32 0x38D1B717#32
  let peak := Ideal.cmp .oge t one
  let a := min (one - lo) (max lo (half + half * Scalar.select peak (Ideal.tanh (half * x)) (zero - Ideal.tanh (half * x))))
  Ideal.log a * Named.named (F := Ideal) κ "inv_ln2" (φ := .f32) 0x3FB8AA3B#32
    * ((one - a) * (one - a) * Scalar.select peak one ((one - t) * (one - t) * ((one - t) * (one - t))))

/-- The count of a pixel as the payloads spell it. -/
def rawCount (t : EReal) : EReal :=
  Scalar.select (Ideal.cmp .oge t (Ideal.ofBits .f32 0x3F800000#32)) (Ideal.ofBits .f32 0x3F800000#32)
    (Ideal.ofBits .f32 0x00000000#32)

/-- A selection by the word of a comparison with one is a case distinction. -/
theorem select_peak (t : EReal) (u v : EReal) :
    Scalar.select (Ideal.cmp .oge t 1) u v = if 1 ≤ t then u else v := by
  unfold Scalar.select Ideal.cmp
  by_cases h : (1 : EReal) ≤ t <;> simp [h]

/-- The named reciprocal of `log 2`. -/
theorem named_inv_ln2 :
    Named.named (F := Ideal) κ "inv_ln2" (φ := .f32) 0x3FB8AA3B#32 = (((Real.log 2)⁻¹ : ℝ) : EReal) :=
  IdealRules.named_const.ideal_named_scalar _ _ _ _ rfl

/-- The named `log 2`. -/
theorem named_ln2 : Named.named (F := Ideal) κ "ln2" (φ := .f32) 0x3F317218#32 = ((Real.log 2 : ℝ) : EReal) :=
  IdealRules.named_const.ideal_named_scalar _ _ _ _ rfl

/-- The payloads' term is the kernel's term. -/
theorem rawTerm_eq (x t : EReal) : rawTerm x t = kterm x t := by
  unfold rawTerm kterm arg signed weight clip
  simp only [lit_one, lit_half, lit_lo, Ideal.ofBits_zero_f32, named_inv_ln2, select_peak]

/-- The payloads' count is the count. -/
theorem rawCount_eq (t : EReal) : rawCount t = count t := by
  unfold rawCount count
  simp only [lit_one, Ideal.ofBits_zero_f32, select_peak]

/-- The first carried value after a slab. -/
def addTerms (a : Carry) (xs ts : Slab) : Carry := fun j =>
  a j + rawTerm (shapeCast S16x384 xs shapeCasts_S1x1x16x384_S16x384 j) (shapeCast S16x384 ts shapeCasts_S1x1x16x384_S16x384 j)

/-- The second carried value after a slab. -/
def addCounts (a : Carry) (ts : Slab) : Carry := fun j =>
  a j + rawCount (shapeCast S16x384 ts shapeCasts_S1x1x16x384_S16x384 j)

/-! ## Totals -/

/-- A reshaping only reorders the elements, so it keeps every sum over them. -/
theorem sum_shapeCast {s t : Shape} (h : s.ShapeCasts t) (f : s.Idx → EReal) :
    ∑ j : t.Idx, f (Shape.reshapeEquiv h j) = ∑ i : s.Idx, f i :=
  Equiv.sum_comp (Shape.reshapeEquiv h) f

/-- A slab raises the total of the terms by its own total. -/
theorem sum_addTerms (a : Carry) (xs ts : Slab) :
    ∑ j, addTerms a xs ts j = ∑ j, a j + ∑ y, kterm (xs y) (ts y) := by
  unfold addTerms
  simp only [rawTerm_eq, Finset.sum_add_distrib]
  exact congrArg _ (sum_shapeCast shapeCasts_S1x1x16x384_S16x384 fun y => kterm (xs y) (ts y))

/-- A slab raises the total count by its own count. -/
theorem sum_addCounts (a : Carry) (ts : Slab) :
    ∑ j, addCounts a ts j = ∑ j, a j + ∑ y, count (ts y) := by
  unfold addCounts
  simp only [rawCount_eq, Finset.sum_add_distrib]
  exact congrArg _ (sum_shapeCast shapeCasts_S1x1x16x384_S16x384 fun y => count (ts y))

/-- The loop starts from zero totals. -/
theorem sum_start : ∑ j, k0_pay1 (F := Ideal) j = 0 :=
  Finset.sum_eq_zero fun _ _ => Ideal.ofBits_zero_f32

end Cert.Focal

end
-- ==== Proof.Trip.lean ====
/- The kernel's loop over the slabs of a block: what one trip and the whole loop add to the totals of the carried pair. -/
module

public import proofs.«01_k».proof.Proof.Slab
public import proofs.«01_k».proof.Proof.Gen.KernelIdeal.Loops
public import Idealize.ShloMosaic.Lib.ValueIdx
public import Idealize.ShloMosaic.Lib.Pipeline.ValueKit

@[expose] public section

noncomputable section

namespace Cert.Focal

open Idealize.ShloMosaic Idealize.ShloMosaic.ValueIdx
open Cert.KernelIdeal Cert.KernelIdeal.Gen

/-- A block of the logits or of the heatmap. -/
abbrev Block : Type := Vec Ideal S4x3x128x384 .f32

/-- The pixel of a block at place `y` of slab `n` and channel `ch`: eight slabs of sixteen rows make an image. -/
def cell (n : ℕ) (ch : Fin 3) (y : S1x1x16x384.Idx) : S4x3x128x384.Idx :=
  ValueIdx.ix4 (n0 := 4) (n1 := 3) (n2 := 128) (n3 := 384) ⟨n / 8 % 4, Nat.mod_lt _ (by omega)⟩ ch
    ⟨n % 8 * 16 + (y 2).val, by have h : (y 2).val < 16 := (y 2).isLt; omega⟩ (y 3)

/-- The slab of a block. -/
def slab (x : Block) (n : ℕ) (ch : Fin 3) : Slab := fun y => x (cell n ch y)

/-- A load at the offsets of a slab reads the slab. -/
theorem load_slab (m : Memref sig .tc .vmem S4x3x128x384 .f32) (hm : m.IsWhole) (x : Block) (off : Fin 4 → ℕ)
    (inb : ∀ a, off a + S1x1x16x384.size a ≤ S4x3x128x384.size a) (n : ℕ) (ch : Fin 3) (hn : n < 32)
    (ho : off = ![n / 8, ch.val, n % 8 * 16, 0]) :
    View.readAt (Elt Ideal) m.view (Rect.unit (s := S4x3x128x384) off S1x1x16x384.size inb).toLoadRect (hm.unread x)
      = slab x n ch := by
  funext y
  rw [View.readAt_eq_ld, Memref.IsWhole.read_unread]
  have h0 : (y 0).val = 0 := Nat.lt_one_iff.mp (y 0).isLt
  have h1 : (y 1).val = 0 := Nat.lt_one_iff.mp (y 1).isLt
  refine View.ld_unit_apply_of x off S1x1x16x384.size inb y (cell n ch y) fun a => ?_
  subst ho
  fin_cases a
  · show n / 8 % 4 = n / 8 + (y 0).val; omega
  · show ch.val = ch.val + (y 1).val; omega
  · rfl
  · show (y 3).val = 0 + (y 3).val; omega

/-! ## The offsets of a trip's loads -/

/-- The first slab's channel 0: its offsets as numbers. -/
theorem off_1 : ∀ k : Fin k0_t1_loop.trips, k0_off1 k 0#32 = ![2 * k.val / 8, 0, 2 * k.val % 8 * 16, 0] := by
  decide +kernel
/-- The first slab's channel 1: its offsets as numbers. -/
theorem off_2 : ∀ k : Fin k0_t1_loop.trips, k0_off2 k 0#32 = ![2 * k.val / 8, 1, 2 * k.val % 8 * 16, 0] := by
  decide +kernel
/-- The first slab's channel 2: its offsets as numbers. -/
theorem off_3 : ∀ k : Fin k0_t1_loop.trips, k0_off3 k 0#32 = ![2 * k.val / 8, 2, 2 * k.val % 8 * 16, 0] := by
  decide +kernel
/-- The second slab's channel 0: its offsets as numbers. -/
theorem off_4 : ∀ k : Fin k0_t1_loop.trips,
    k0_off1 k 1#32 = ![(2 * k.val + 1) / 8, 0, (2 * k.val + 1) % 8 * 16, 0] := by decide +kernel
/-- The second slab's channel 1: its offsets as numbers. -/
theorem off_5 : ∀ k : Fin k0_t1_loop.trips,
    k0_off2 k 1#32 = ![(2 * k.val + 1) / 8, 1, (2 * k.val + 1) % 8 * 16, 0] := by decide +kernel
/-- The second slab's channel 2: its offsets as numbers. -/
theorem off_6 : ∀ k : Fin k0_t1_loop.trips,
    k0_off3 k 1#32 = ![(2 * k.val + 1) / 8, 2, (2 * k.val + 1) % 8 * 16, 0] := by decide +kernel

/-- The loop makes sixteen trips. -/
theorem trips_eq : k0_t1_loop.trips = 16 := by decide +kernel

section

variable (c : Dev nD) (i : grid0.Coords)
  (arg1 : Memref sig .tc .vmem S4x3x128x384 .f32) (harg1 : arg1.IsWhole)
  (arg2 : Memref sig .tc .vmem S4x3x128x384 .f32) (harg2 : arg2.IsWhole)
  (arg3 : Memref sig .tc .smem S1 .f32) (harg3 : arg3.IsWhole)
  (arg4 : Memref sig .tc .vmem S2x8x384 .f32) (harg4 : arg4.IsWhole) (x t : Block)

/-- A trip adds two slabs of three channels each to the first carried value. -/
theorem trip_terms (k : Fin k0_t1_loop.trips) (acc : Carry × Carry) :
    (tripR_k0_t1 Variants.none c none i arg1 harg1 arg2 harg2 arg3 harg3 arg4 harg4 (harg1.unread x) (harg2.unread t) k acc).1
      = addTerms (addTerms (addTerms (addTerms (addTerms (addTerms acc.1
          (slab x (2 * k) 0) (slab t (2 * k) 0)) (slab x (2 * k) 1) (slab t (2 * k) 1))
          (slab x (2 * k) 2) (slab t (2 * k) 2)) (slab x (2 * k + 1) 0) (slab t (2 * k + 1) 0))
          (slab x (2 * k + 1) 1) (slab t (2 * k + 1) 1)) (slab x (2 * k + 1) 2) (slab t (2 * k + 1) 2) := by
  have hk : k.val < 16 := trips_eq ▸ k.isLt
  unfold tripR_k0_t1 trip_k0_t1
  dsimp only
  sl_unfold_words
  rw [← load_slab arg1 harg1 x _ (k0_off1_inb k 0) (2 * k) 0 (by omega) (off_1 k),
    ← load_slab arg2 harg2 t _ (k0_off1_inb k 0) (2 * k) 0 (by omega) (off_1 k),
    ← load_slab arg1 harg1 x _ (k0_off2_inb k 0) (2 * k) 1 (by omega) (off_2 k),
    ← load_slab arg2 harg2 t _ (k0_off2_inb k 0) (2 * k) 1 (by omega) (off_2 k),
    ← load_slab arg1 harg1 x _ (k0_off3_inb k 0) (2 * k) 2 (by omega) (off_3 k),
    ← load_slab arg2 harg2 t _ (k0_off3_inb k 0) (2 * k) 2 (by omega) (off_3 k),
    ← load_slab arg1 harg1 x _ (k0_off1_inb k 1) (2 * k + 1) 0 (by omega) (off_4 k),
    ← load_slab arg2 harg2 t _ (k0_off1_inb k 1) (2 * k + 1) 0 (by omega) (off_4 k),
    ← load_slab arg1 harg1 x _ (k0_off2_inb k 1) (2 * k + 1) 1 (by omega) (off_5 k),
    ← load_slab arg2 harg2 t _ (k0_off2_inb k 1) (2 * k + 1) 1 (by omega) (off_5 k),
    ← load_slab arg1 harg1 x _ (k0_off3_inb k 1) (2 * k + 1) 2 (by omega) (off_6 k),
    ← load_slab arg2 harg2 t _ (k0_off3_inb k 1) (2 * k + 1) 2 (by omega) (off_6 k)]
  rfl

/-- A trip adds the counts of two slabs of three channels each to the second carried value. -/
theorem trip_counts (k : Fin k0_t1_loop.trips) (acc : Carry × Carry) :
    (tripR_k0_t1 Variants.none c none i arg1 harg1 arg2 harg2 arg3 harg3 arg4 harg4 (harg1.unread x) (harg2.unread t) k acc).2
      = addCounts (addCounts (addCounts (addCounts (addCounts (addCounts acc.2
          (slab t (2 * k) 0)) (slab t (2 * k) 1)) (slab t (2 * k) 2)) (slab t (2 * k + 1) 0))
          (slab t (2 * k + 1) 1)) (slab t (2 * k + 1) 2) := by
  have hk : k.val < 16 := trips_eq ▸ k.isLt
  unfold tripR_k0_t1 trip_k0_t1
  dsimp only
  sl_unfold_words
  rw [← load_slab arg2 harg2 t _ (k0_off1_inb k 0) (2 * k) 0 (by omega) (off_1 k),
    ← load_slab arg2 harg2 t _ (k0_off2_inb k 0) (2 * k) 1 (by omega) (off_2 k),
    ← load_slab arg2 harg2 t _ (k0_off3_inb k 0) (2 * k) 2 (by omega) (off_3 k),
    ← load_slab arg2 harg2 t _ (k0_off1_inb k 1) (2 * k + 1) 0 (by omega) (off_4 k),
    ← load_slab arg2 harg2 t _ (k0_off2_inb k 1) (2 * k + 1) 1 (by omega) (off_5 k),
    ← load_slab arg2 harg2 t _ (k0_off3_inb k 1) (2 * k + 1) 2 (by omega) (off_6 k)]
  rfl

/-! ## Totals of the loop -/

/-- The total of a quantity over slab `n` of a block, all three channels. -/
def slabTotal (G : S4x3x128x384.Idx → EReal) (n : ℕ) : EReal := ∑ ch : Fin 3, ∑ y, G (cell n ch y)

/-- The total of a quantity over the first `n` slabs. -/
def slabsTotal (G : S4x3x128x384.Idx → EReal) (n : ℕ) : EReal := ∑ k ∈ Finset.range n, slabTotal G k

/-- Two more slabs. -/
theorem slabsTotal_step (G : S4x3x128x384.Idx → EReal) (n : ℕ) :
    slabsTotal G (2 * (n + 1)) = slabsTotal G (2 * n) + slabTotal G (2 * n) + slabTotal G (2 * n + 1) := by
  rw [show 2 * (n + 1) = 2 * n + 1 + 1 by ring]
  simp only [slabsTotal, Finset.sum_range_succ]

/-- After `n` trips the carried totals are those of the first `2 n` slabs. -/
theorem loop_totals (n : ℕ) (hn : n ≤ k0_t1_loop.trips) :
    ∑ j, (st_k0_t1 Variants.none c none i arg1 harg1 arg2 harg2 arg3 harg3 arg4 harg4 (harg1.unread x) (harg2.unread t)
        (k0_pay1, k0_pay1) n).1 j = slabsTotal (fun z => kterm (x z) (t z)) (2 * n)
    ∧ ∑ j, (st_k0_t1 Variants.none c none i arg1 harg1 arg2 harg2 arg3 harg3 arg4 harg4 (harg1.unread x) (harg2.unread t)
        (k0_pay1, k0_pay1) n).2 j = slabsTotal (fun z => count (t z)) (2 * n) := by
  induction n with
  | zero =>
    rw [st_k0_t1_zero]
    exact ⟨sum_start, sum_start⟩
  | succ n ih =>
    obtain ⟨h1, h2⟩ := ih (by omega)
    have hs := st_k0_t1_succ (F := Ideal) Variants.none c none i arg1 harg1 arg2 harg2 arg3 harg3 arg4 harg4
      (harg1.unread x) (harg2.unread t) (k0_pay1, k0_pay1) ⟨n, by omega⟩
    dsimp only at hs
    rw [hs, trip_terms, trip_counts]
    simp only [sum_addTerms, sum_addCounts, h1, h2]
    simp only [slabsTotal_step, slabTotal, Fin.sum_univ_three, slab, add_assoc, and_self]

end

end Cert.Focal

end
-- ==== Proof.Scratch.lean ====
/- The two planes a grid step leaves in the scratch buffer, by their totals, and the value the last step stores. -/
module

public import proofs.«01_k».proof.Proof.Trip
public import proofs.«01_k».proof.Proof.Gen.KernelIdeal.Value
public import Idealize.ShloMosaic.PureOps.Ideal.Laws

@[expose] public section

noncomputable section

namespace Cert.Focal

open Idealize.ShloMosaic Idealize.ShloMosaic.ValueIdx
open Cert.KernelIdeal Cert.KernelIdeal.Gen

/-- The scratch buffer's contents. -/
abbrev Scratch : Type := Vec Ideal S2x8x384 .f32

/-- One plane of it. -/
abbrev Plane : Type := Vec Ideal S1x8x384 .f32

/-- The first plane's place: the running terms. -/
abbrev rect0 : Rect S2x8x384 := Rect.unit ![0, 0, 0] S1x8x384.size inb_S2x8x384_S1x8x384_0_0_0

/-- The second plane's place: the running counts. -/
abbrev rect1 : Rect S2x8x384 := Rect.unit ![1, 0, 0] S1x8x384.size inb_S2x8x384_S1x8x384_1_0_0

/-- The scratch buffer after a store of each plane. -/
def stored (p q : Plane) : Scratch :=
  View.canon [(⟨rect1, q⟩ : View.Piece (Elt Ideal) S2x8x384 .f32), ⟨rect0, p⟩]

/-- The second plane reads back. -/
theorem ld_stored_1 (p q : Plane) : View.ld (stored p q) rect1 = q :=
  funext fun y => View.canon_cons_emb rect1 q _ y

/-- The first plane reads back, the second lying beside it. -/
theorem ld_stored_0 (p q : Plane) : View.ld (stored p q) rect0 = p := by
  funext y
  refine Eq.trans (View.canon_cons_of_not_mem (⟨rect1, q⟩ : View.Piece (Elt Ideal) S2x8x384 .f32) _
    (LoadRect.idx_not_mem_of_disj (p := rect1) (B := rect0.toLoadRect) (by decide) y)) ?_
  exact View.canon_cons_emb rect0 p _ y

/-- The total of a scratch buffer's first plane. -/
def total0 (s : Scratch) : EReal := ∑ y : S1x8x384.Idx, View.ld s rect0 y

/-- The total of a scratch buffer's second plane. -/
def total1 (s : Scratch) : EReal := ∑ y : S1x8x384.Idx, View.ld s rect1 y

/-! ## The payloads after the loop, by their totals -/

/-- Summing an array along an axis keeps its total. -/
theorem sum_reduce {s t : Shape} {axes : List (Fin s.rank)} (h : s.Reduces axes t) (x : s.Idx → EReal) :
    ∑ j, Ideal.reduceAdd h x j = ∑ i, x i := by
  unfold Ideal.reduceAdd
  exact Finset.sum_fiberwise Finset.univ (fun i => h.drop i) x

/-- Folding the carried terms from sixteen rows to eight keeps their total. -/
theorem sum_pay3 (a : Carry) : ∑ j, k0_pay3 a j = ∑ j, a j := by
  refine Eq.trans (sum_reduce reduces_S2x8x384_S8x384 _) ?_
  exact sum_shapeCast shapeCasts_S16x384_S2x8x384 a

/-- Folding the carried counts likewise. -/
theorem sum_pay4 (a : Carry) : ∑ j, k0_pay4 a j = ∑ j, a j := sum_pay3 a

/-- The first step's store of the terms has the carried total. -/
theorem sum_pay5 (a : Carry) : ∑ y, k0_pay5 a y = ∑ j, a j :=
  (sum_shapeCast shapeCasts_S8x384_S1x8x384 (k0_pay3 a)).trans (sum_pay3 a)

/-- The first step's store of the counts likewise. -/
theorem sum_pay6 (a : Carry) : ∑ y, k0_pay6 a y = ∑ j, a j := sum_pay5 a

/-- A later step's store of the terms adds the carried total to the plane's. -/
theorem sum_pay7 (a : Carry) (p : Plane) : ∑ y, k0_pay7 a p y = ∑ y, p y + ∑ j, a j := by
  refine Eq.trans (sum_shapeCast shapeCasts_S8x384_S1x8x384 fun j =>
    shapeCast S8x384 p shapeCasts_S1x8x384_S8x384 j + k0_pay3 a j) ?_
  rw [Finset.sum_add_distrib, sum_pay3]
  exact congrArg (· + _) (sum_shapeCast shapeCasts_S1x8x384_S8x384 p)

/-- A later step's store of the counts likewise. -/
theorem sum_pay8 (a : Carry) (p : Plane) : ∑ y, k0_pay8 a p y = ∑ y, p y + ∑ j, a j := sum_pay7 a p

/-- The loss from the two totals, as the kernel computes it. -/
def lossOf (terms counts : EReal) : EReal :=
  Ideal.div (0 - terms * ((Real.log 2 : ℝ) : EReal)) (max counts 1)

/-- The total of a plane as the last step takes it. -/
theorem extract_total (p : Plane) :
    extractAt ![0, 0, 0] (shapeCast S1x1x1 (multiReduction (F := Ideal) (φ := .f32) .add [1, 2] S1
      (shapeCast S1x8x384 (shapeCast S8x384 p shapeCasts_S1x8x384_S8x384) shapeCasts_S8x384_S1x8x384)
      0x00000000#32 reduces_S1x8x384_S1 (.inl rfl) rfl) shapeCasts_S1_S1x1x1) inpos_S1x1x1_p0_0_0
      = ∑ y, p y := by
  unfold extractAt
  refine Eq.trans (Ideal.multiReduction_add_total _ _ _ (by decide) _ _ _) ?_
  refine Eq.trans (sum_shapeCast shapeCasts_S8x384_S1x8x384 (shapeCast S8x384 p shapeCasts_S1x8x384_S8x384)) ?_
  exact sum_shapeCast shapeCasts_S1x8x384_S8x384 p

/-- The last step's value. -/
theorem pay9_eq (p q : Plane) : k0_pay9 p q = lossOf (∑ y, p y) (∑ y, q y) := by
  unfold k0_pay9 lossOf
  dsimp only
  rw [extract_total, extract_total, named_ln2]
  simp only [Ideal.scalar_divf_def, Ideal.scalar_subf_def, Ideal.scalar_mulf_def, Ideal.scalar_maximumf_def]
  rw [show (Scalar.ofBits (F := Ideal) .f32 0x3F800000#32) = 1 from lit_one,
    show (Scalar.ofBits (F := Ideal) .f32 0x00000000#32) = 0 from Ideal.ofBits_zero_f32]

/-! ## The steps -/

section

variable (c : Dev nD) (i : grid0.Coords)
  (arg1 : Memref sig .tc .vmem S4x3x128x384 .f32) (harg1 : arg1.IsWhole)
  (arg2 : Memref sig .tc .vmem S4x3x128x384 .f32) (harg2 : arg2.IsWhole)
  (arg3 : Memref sig .tc .smem S1 .f32) (harg3 : arg3.IsWhole)
  (arg4 : Memref sig .tc .vmem S2x8x384 .f32) (harg4 : arg4.IsWhole) (x t : Block)

/-- The carried pair after the loop. -/
def final : Carry × Carry :=
  st_k0_t1 Variants.none c none i arg1 harg1 arg2 harg2 arg3 harg3 arg4 harg4 (harg1.unread x) (harg2.unread t)
    (k0_pay1, k0_pay1) k0_t1_loop.trips

/-- The kernel's terms of a block, all its slabs. -/
def blockTerms (x t : Block) : EReal := slabsTotal (fun z => kterm (x z) (t z)) 32

/-- The count of a block, all its slabs. -/
def blockCount (t : Block) : EReal := slabsTotal (fun z => count (t z)) 32

/-- After the loop the carried terms have the block's total. -/
theorem sum_final_1 :
    ∑ j, (final c i arg1 harg1 arg2 harg2 arg3 harg3 arg4 harg4 x t).1 j = blockTerms x t := by
  have h := (loop_totals c i arg1 harg1 arg2 harg2 arg3 harg3 arg4 harg4 x t _ le_rfl).1
  rwa [show 2 * k0_t1_loop.trips = 32 by rw [trips_eq]] at h

/-- After the loop the carried counts have the block's count. -/
theorem sum_final_2 :
    ∑ j, (final c i arg1 harg1 arg2 harg2 arg3 harg3 arg4 harg4 x t).2 j = blockCount t := by
  have h := (loop_totals c i arg1 harg1 arg2 harg2 arg3 harg3 arg4 harg4 x t _ le_rfl).2
  rwa [show 2 * k0_t1_loop.trips = 32 by rw [trips_eq]] at h

/-- The first step leaves the folded pair. -/
theorem scratch_A (hc0 : cond0_0 i) (hc1 : ¬cond0_1 i) (hc2 : ¬cond0_2 i) :
    sout0_A_0 c i arg1 harg1 arg2 harg2 arg3 harg3 arg4 harg4 hc0 hc1 hc2 x t
      = stored (k0_pay5 (final c i arg1 harg1 arg2 harg2 arg3 harg3 arg4 harg4 x t).1)
          (k0_pay6 (final c i arg1 harg1 arg2 harg2 arg3 harg3 arg4 harg4 x t).2) := by
  unfold sout0_A_0
  rw [View.read_writes_eq_canon _ _ _
    (scover0_A_0 c i arg1 harg1 arg2 harg2 arg3 harg3 arg4 harg4 hc0 hc1 hc2 x t)]
  unfold kernelRun0_A
  dsimp only
  sl_unfold_words
  rfl

/-- A load of a plane reads the plane. -/
theorem load_plane (r : Rect S2x8x384) (s : Scratch) :
    View.readAt (Elt Ideal) arg4.view r.toLoadRect (harg4.unread s) = View.ld s r := by
  rw [View.readAt_eq_ld, Memref.IsWhole.read_unread]

/-- A middle step adds the folded pair to the planes. -/
theorem scratch_B (hc0 : ¬cond0_0 i) (hc1 : cond0_1 i) (hc2 : ¬cond0_2 i) (s : Scratch) :
    sout0_B_0 c i arg1 harg1 arg2 harg2 arg3 harg3 arg4 harg4 hc0 hc1 hc2 x t s
      = stored (k0_pay7 (final c i arg1 harg1 arg2 harg2 arg3 harg3 arg4 harg4 x t).1 (View.ld s rect0))
          (k0_pay8 (final c i arg1 harg1 arg2 harg2 arg3 harg3 arg4 harg4 x t).2 (View.ld s rect1)) := by
  rw [← load_plane arg4 harg4 rect0 s, ← load_plane arg4 harg4 rect1 s]
  unfold sout0_B_0
  rw [View.read_writes_eq_canon _ _ _
    (scover0_B_0 c i arg1 harg1 arg2 harg2 arg3 harg3 arg4 harg4 hc0 hc1 hc2 x t s)]
  unfold kernelRun0_B
  dsimp only
  sl_unfold_words
  rfl

/-- The last step's value, from the planes after its own additions. -/
theorem out_C (hc0 : ¬cond0_0 i) (hc1 : cond0_1 i) (hc2 : cond0_2 i) (s : Scratch) (j : S1.Idx) :
    out0_C_2 c i arg1 harg1 arg2 harg2 arg3 harg3 arg4 harg4 hc0 hc1 hc2 x t s j
      = k0_pay9 (k0_pay7 (final c i arg1 harg1 arg2 harg2 arg3 harg3 arg4 harg4 x t).1 (View.ld s rect0))
          (k0_pay8 (final c i arg1 harg1 arg2 harg2 arg3 harg3 arg4 harg4 x t).2 (View.ld s rect1)) := by
  have hs (p q : Plane) : arg4.view.readCov [(⟨rect1, q⟩ : View.Piece (Elt Ideal) S2x8x384 .f32), ⟨rect0, p⟩] rect0.toLoadRect = p := by
    rw [View.readCov_eq_canon']
    exact ld_stored_0 p q
  have hs' (p q : Plane) : arg4.view.readCov [(⟨rect1, q⟩ : View.Piece (Elt Ideal) S2x8x384 .f32), ⟨rect0, p⟩] rect1.toLoadRect = q := by
    rw [View.readCov_eq_canon']
    exact ld_stored_1 p q
  rw [← hs (k0_pay7 (final c i arg1 harg1 arg2 harg2 arg3 harg3 arg4 harg4 x t).1 (View.ld s rect0))
      (k0_pay8 (final c i arg1 harg1 arg2 harg2 arg3 harg3 arg4 harg4 x t).2 (View.ld s rect1))]
  conv_rhs =>
    arg 2
    rw [← hs' (k0_pay7 (final c i arg1 harg1 arg2 harg2 arg3 harg3 arg4 harg4 x t).1 (View.ld s rect0))
      (k0_pay8 (final c i arg1 harg1 arg2 harg2 arg3 harg3 arg4 harg4 x t).2 (View.ld s rect1))]
  rw [← load_plane arg4 harg4 rect0 s, ← load_plane arg4 harg4 rect1 s]
  unfold out0_C_2
  rw [View.read_writes_eq_canon _ _ _
    (cover0_C_2 c i arg1 harg1 arg2 harg2 arg3 harg3 arg4 harg4 hc0 hc1 hc2 x t s)]
  unfold kernelRun0_C
  dsimp only
  sl_unfold_words
  rw [View.canon_unit_zero (by decide)]
  rfl

/-- The totals the first step leaves. -/
theorem totals_A (hc0 : cond0_0 i) (hc1 : ¬cond0_1 i) (hc2 : ¬cond0_2 i) :
    total0 (sout0_A_0 c i arg1 harg1 arg2 harg2 arg3 harg3 arg4 harg4 hc0 hc1 hc2 x t) = blockTerms x t
    ∧ total1 (sout0_A_0 c i arg1 harg1 arg2 harg2 arg3 harg3 arg4 harg4 hc0 hc1 hc2 x t) = blockCount t := by
  rw [scratch_A, total0, total1, ld_stored_0, ld_stored_1, sum_pay5, sum_pay6, sum_final_1, sum_final_2]
  exact ⟨rfl, rfl⟩

/-- The totals a middle step leaves. -/
theorem totals_B (hc0 : ¬cond0_0 i) (hc1 : cond0_1 i) (hc2 : ¬cond0_2 i) (s : Scratch) :
    total0 (sout0_B_0 c i arg1 harg1 arg2 harg2 arg3 harg3 arg4 harg4 hc0 hc1 hc2 x t s) = total0 s + blockTerms x t
    ∧ total1 (sout0_B_0 c i arg1 harg1 arg2 harg2 arg3 harg3 arg4 harg4 hc0 hc1 hc2 x t s) = total1 s + blockCount t := by
  rw [scratch_B, total0, total1, ld_stored_0, ld_stored_1, sum_pay7, sum_pay8, sum_final_1, sum_final_2]
  exact ⟨rfl, rfl⟩

/-- The last step's value, from the totals before it. -/
theorem loss_C (hc0 : ¬cond0_0 i) (hc1 : cond0_1 i) (hc2 : cond0_2 i) (s : Scratch) (j : S1.Idx) :
    out0_C_2 c i arg1 harg1 arg2 harg2 arg3 harg3 arg4 harg4 hc0 hc1 hc2 x t s j
      = lossOf (total0 s + blockTerms x t) (total1 s + blockCount t) := by
  rw [out_C, pay9_eq, sum_pay7, sum_pay8, sum_final_1, sum_final_2]
  rfl

end

end Cert.Focal

end
-- ==== Proof.Reblock.lean ====
/- The kernel's order of the pixels: the slabs of a block are all of it, and the four blocks are the whole array. -/
module

public import proofs.«01_k».proof.Proof.Trip

@[expose] public section

noncomputable section

namespace Cert.Focal

open Idealize.ShloMosaic
open Cert.KernelIdeal Cert.KernelIdeal.Gen

/-- Every pixel of a block lies in exactly one slab, channel and place. -/
theorem cell_bijective :
    Function.Bijective fun p : Fin 32 × Fin 3 × S1x1x16x384.Idx => cell p.1.val p.2.1 p.2.2 := by
  constructor
  · rintro ⟨n, ch, y⟩ ⟨n', ch', y'⟩ h
    have e0 : n.val / 8 % 4 = n'.val / 8 % 4 := congrArg Fin.val (congrFun h (0 : Fin 4))
    have e1 : ch = ch' := congrFun h (1 : Fin 4)
    have e2 : n.val % 8 * 16 + (y 2).val = n'.val % 8 * 16 + (y' 2).val := congrArg Fin.val (congrFun h (2 : Fin 4))
    have e3 : y 3 = y' 3 := congrFun h (3 : Fin 4)
    have b : (y 2).val < 16 := (y 2).isLt
    have b' : (y' 2).val < 16 := (y' 2).isLt
    have hn := n.isLt
    have hn' := n'.isLt
    have en : n = n' := Fin.ext (by omega)
    have ey : y = y' := by
      funext a
      match a with
      | (0 : Fin 4) => exact Subsingleton.elim (α := Fin 1) _ _
      | (1 : Fin 4) => exact Subsingleton.elim (α := Fin 1) _ _
      | (2 : Fin 4) => exact Fin.ext (by show (y 2).val = (y' 2).val; omega)
      | (3 : Fin 4) => exact e3
    rw [en, e1, ey]
  · intro z
    have b0 : (z 0).val < 4 := (z 0).isLt
    have b2 : (z 2).val < 128 := (z 2).isLt
    refine ⟨⟨⟨(z 0).val * 8 + (z 2).val / 16, by omega⟩, z 1,
      ValueIdx.ix4 (n0 := 1) (n1 := 1) (n2 := 16) (n3 := 384) 0 0 ⟨(z 2).val % 16, Nat.mod_lt _ (by omega)⟩ (z 3)⟩, ?_⟩
    funext a
    match a with
    | (0 : Fin 4) => exact Fin.ext (by show ((z 0).val * 8 + (z 2).val / 16) / 8 % 4 = (z 0).val; omega)
    | (1 : Fin 4) => rfl
    | (2 : Fin 4) =>
      exact Fin.ext (by show ((z 0).val * 8 + (z 2).val / 16) % 8 * 16 + (z 2).val % 16 = (z 2).val; omega)
    | (3 : Fin 4) => rfl

/-- The thirty-two slabs' totals are the block's. -/
theorem slabsTotal_all (G : S4x3x128x384.Idx → EReal) : slabsTotal G 32 = ∑ z, G z := by
  unfold slabsTotal slabTotal
  rw [Finset.sum_range, ← cell_bijective.sum_comp G, Fintype.sum_prod_type]
  refine Finset.sum_congr rfl fun n _ => ?_
  rw [Fintype.sum_prod_type]

/-- The pixel of the whole array at pixel `z` of block `t`. -/
def pixel (t : Fin 4) (z : S4x3x128x384.Idx) : S16x3x128x384.Idx :=
  ValueIdx.ix4 (n0 := 16) (n1 := 3) (n2 := 128) (n3 := 384)
    ⟨4 * t.val + (z 0).val, by have h : (z 0).val < 4 := (z 0).isLt; omega⟩ (z 1) (z 2) (z 3)

/-- Every pixel lies in exactly one block, at one place. -/
theorem pixel_bijective : Function.Bijective fun p : Fin 4 × S4x3x128x384.Idx => pixel p.1 p.2 := by
  constructor
  · rintro ⟨t, z⟩ ⟨t', z'⟩ h
    have e0 : 4 * t.val + (z 0).val = 4 * t'.val + (z' 0).val := congrArg Fin.val (congrFun h (0 : Fin 4))
    have b : (z 0).val < 4 := (z 0).isLt
    have b' : (z' 0).val < 4 := (z' 0).isLt
    have et : t = t' := Fin.ext (by omega)
    have ez : z = z' := by
      funext a
      match a with
      | (0 : Fin 4) => exact Fin.ext (by show (z 0).val = (z' 0).val; omega)
      | (1 : Fin 4) => exact congrFun h (1 : Fin 4)
      | (2 : Fin 4) => exact congrFun h (2 : Fin 4)
      | (3 : Fin 4) => exact congrFun h (3 : Fin 4)
    rw [et, ez]
  · intro i
    have b0 : (i 0).val < 16 := (i 0).isLt
    refine ⟨⟨⟨(i 0).val / 4, by omega⟩,
      ValueIdx.ix4 (n0 := 4) (n1 := 3) (n2 := 128) (n3 := 384) ⟨(i 0).val % 4, Nat.mod_lt _ (by omega)⟩ (i 1) (i 2) (i 3)⟩, ?_⟩
    funext a
    match a with
    | (0 : Fin 4) => exact Fin.ext (by show 4 * ((i 0).val / 4) + (i 0).val % 4 = (i 0).val; omega)
    | (1 : Fin 4) => rfl
    | (2 : Fin 4) => rfl
    | (3 : Fin 4) => rfl

/-- The four blocks' totals are the whole array's. -/
theorem sum_blocks (H : S16x3x128x384.Idx → EReal) :
    (∑ z, H (pixel 0 z)) + (∑ z, H (pixel 1 z)) + (∑ z, H (pixel 2 z)) + (∑ z, H (pixel 3 z)) = ∑ i, H i := by
  rw [← pixel_bijective.sum_comp H, Fintype.sum_prod_type, Fin.sum_univ_four]

end Cert.Focal

end
-- ==== Proof.Result.lean ====
/- The kernel's run read: the one result is the loss of the totals over the whole arrays. -/
module

public import proofs.«01_k».proof.Proof.Scratch
public import proofs.«01_k».proof.Proof.Reblock

@[expose] public section

noncomputable section

namespace Cert.Focal

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

/-- The logits the kernel is called on. -/
abbrev logits : Vec Ideal S16x3x128x384 .f32 := m ((c : Thread nD τ).loc main_arg0)

/-- The heatmap it is called on. -/
abbrev heat : Vec Ideal S16x3x128x384 .f32 := m ((c : Thread nD τ).loc main_arg1)

/-! ## The blocks -/

/-- The logits' block of a grid step. -/
theorem iblk_logits (t : Fin cfg0.N) (b : Fin 4) (hb : b.val = t.val) (z : S4x3x128x384.Idx) :
    (iblk m c 0 t : Block) z = logits m c (pixel b z) := by
  have hi : win0_0.index t 0 = t.val ∧ win0_0.index t 1 = 0 ∧ win0_0.index t 2 = 0 ∧ win0_0.index t 3 = 0 := by
    rcases fin_N0 t with rfl | rfl | rfl | rfl <;> decide
  obtain ⟨i0, i1, i2, i3⟩ := hi
  unfold iblk
  rw [View.read_apply]
  refine congrArg (m ((c : Thread nD τ).loc main_arg0)) (funext fun a => Fin.ext ?_)
  match a with
  | (0 : Fin 4) => show win0_0.index t 0 * 4 + 1 * (z 0).val = 4 * b.val + (z 0).val; omega
  | (1 : Fin 4) => show win0_0.index t 1 * 3 + 1 * (z 1).val = (z 1).val; omega
  | (2 : Fin 4) => show win0_0.index t 2 * 128 + 1 * (z 2).val = (z 2).val; omega
  | (3 : Fin 4) => show win0_0.index t 3 * 384 + 1 * (z 3).val = (z 3).val; omega

/-- The heatmap's block of a grid step. -/
theorem iblk_heat (t : Fin cfg0.N) (b : Fin 4) (hb : b.val = t.val) (z : S4x3x128x384.Idx) :
    (iblk m c 1 t : Block) z = heat m c (pixel b z) := by
  have hi : win0_1.index t 0 = t.val ∧ win0_1.index t 1 = 0 ∧ win0_1.index t 2 = 0 ∧ win0_1.index t 3 = 0 := by
    rcases fin_N0 t with rfl | rfl | rfl | rfl <;> decide
  obtain ⟨i0, i1, i2, i3⟩ := hi
  unfold iblk
  rw [View.read_apply]
  refine congrArg (m ((c : Thread nD τ).loc main_arg1)) (funext fun a => Fin.ext ?_)
  match a with
  | (0 : Fin 4) => show win0_1.index t 0 * 4 + 1 * (z 0).val = 4 * b.val + (z 0).val; omega
  | (1 : Fin 4) => show win0_1.index t 1 * 3 + 1 * (z 1).val = (z 1).val; omega
  | (2 : Fin 4) => show win0_1.index t 2 * 128 + 1 * (z 2).val = (z 2).val; omega
  | (3 : Fin 4) => show win0_1.index t 3 * 384 + 1 * (z 3).val = (z 3).val; omega

/-- The kernel's terms of the block of a grid step, over the pixels of the whole arrays. -/
theorem blockTerms_eq (t : Fin cfg0.N) (b : Fin 4) (hb : b.val = t.val) :
    blockTerms (iblk m c 0 t) (iblk m c 1 t) = ∑ z, kterm (logits m c (pixel b z)) (heat m c (pixel b z)) := by
  unfold blockTerms
  rw [slabsTotal_all]
  exact Finset.sum_congr rfl fun z _ => congrArg₂ kterm (iblk_logits m c t b hb z) (iblk_heat m c t b hb z)

/-- The count of the block of a grid step, likewise. -/
theorem blockCount_eq (t : Fin cfg0.N) (b : Fin 4) (hb : b.val = t.val) :
    blockCount (iblk m c 1 t) = ∑ z, count (heat m c (pixel b z)) := by
  unfold blockCount
  rw [slabsTotal_all]
  exact Finset.sum_congr rfl fun z _ => congrArg count (iblk_heat m c t b hb z)

/-! ## The grid -/

/-- What a step leaves depends on its position alone. -/
theorem outsAt_congr {a b : ℕ} (ha : a < cfg0.N) (hb : b < cfg0.N) (e : a = b) : outsAt0 m c a ha = outsAt0 m c b hb := by
  subst e; rfl

/-- The totals after the first step. -/
theorem after_0 :
    total0 (outsAt0 m c t0_0.val t0_0.isLt).2 = ∑ z, kterm (logits m c (pixel 0 z)) (heat m c (pixel 0 z))
    ∧ total1 (outsAt0 m c t0_0.val t0_0.isLt).2 = ∑ z, count (heat m c (pixel 0 z)) := by
  rw [outsAt0_A m c t0_0 rfl (by decide) (by decide), ← blockTerms_eq m c t0_0 0 rfl, ← blockCount_eq m c t0_0 0 rfl]
  dsimp only
  exact totals_A c (grid0.coords t0_0) (ms0_0 t0_0) (hs0_0 t0_0) (ms0_1 t0_0) (hs0_1 t0_0) (ms0_2 t0_0) (hs0_2 t0_0) scM0_0
    (Memref.isWhole_whole _) (iblk m c 0 t0_0) (iblk m c 1 t0_0) ((hcond0_0 t0_0).mpr rfl)
    (fun h => absurd ((hcond0_1 t0_0).mp h) (by decide)) (fun h => absurd ((hcond0_2 t0_0).mp h) (by decide))

/-- A middle step adds its block's totals. -/
theorem after_mid (s t : Fin cfg0.N) (b : Fin 4) (hs : t.val - 1 = s.val) (hb : b.val = t.val) (h1 : 1 ≤ t.val) (h3 : t.val < 3) :
    total0 (outsAt0 m c t.val t.isLt).2 = total0 (outsAt0 m c s.val s.isLt).2
        + ∑ z, kterm (logits m c (pixel b z)) (heat m c (pixel b z))
    ∧ total1 (outsAt0 m c t.val t.isLt).2 = total1 (outsAt0 m c s.val s.isLt).2
        + ∑ z, count (heat m c (pixel b z)) := by
  rw [outsAt0_B m c t (by omega) h1 (by omega), outsAt_congr m c _ s.isLt hs, ← blockTerms_eq m c t b hb, ← blockCount_eq m c t b hb]
  dsimp only
  exact totals_B c (grid0.coords t) (ms0_0 t) (hs0_0 t) (ms0_1 t) (hs0_1 t) (ms0_2 t) (hs0_2 t) scM0_0
    (Memref.isWhole_whole _) (iblk m c 0 t) (iblk m c 1 t) (fun h => absurd ((hcond0_0 t).mp h) (by omega))
    ((hcond0_1 t).mpr h1) (fun h => absurd ((hcond0_2 t).mp h) (by omega)) _

/-- The kernel's result: the loss of the totals over all the pixels. -/
def loss : Vec Ideal S1 .f32 := fun _ =>
  lossOf (∑ i, kterm (logits m c i) (heat m c i)) (∑ i, count (heat m c i))

/-- The totals after the last middle step. -/
theorem after_2 :
    total0 (outsAt0 m c t0_2.val t0_2.isLt).2 = (∑ z, kterm (logits m c (pixel 0 z)) (heat m c (pixel 0 z)))
        + (∑ z, kterm (logits m c (pixel 1 z)) (heat m c (pixel 1 z)))
        + ∑ z, kterm (logits m c (pixel 2 z)) (heat m c (pixel 2 z))
    ∧ total1 (outsAt0 m c t0_2.val t0_2.isLt).2 = (∑ z, count (heat m c (pixel 0 z)))
        + (∑ z, count (heat m c (pixel 1 z))) + ∑ z, count (heat m c (pixel 2 z)) := by
  rw [(after_mid m c t0_1 t0_2 2 rfl rfl (by decide) (by decide)).1,
    (after_mid m c t0_1 t0_2 2 rfl rfl (by decide) (by decide)).2,
    (after_mid m c t0_0 t0_1 1 rfl rfl (by decide) (by decide)).1,
    (after_mid m c t0_0 t0_1 1 rfl rfl (by decide) (by decide)).2, (after_0 m c).1, (after_0 m c).2]
  exact ⟨rfl, rfl⟩

/-- The last step stores the loss. -/
theorem after_3 : (outsAt0 m c t0_3.val t0_3.isLt).1 = loss m c := by
  rw [outsAt0_C m c t0_3 (by decide) (by decide) rfl, outsAt_congr m c _ t0_2.isLt (show t0_3.val - 1 = t0_2.val from rfl)]
  funext j
  dsimp only
  rw [loss_C c (grid0.coords t0_3) (ms0_0 t0_3) (hs0_0 t0_3) (ms0_1 t0_3) (hs0_1 t0_3) (ms0_2 t0_3) (hs0_2 t0_3) scM0_0
    (Memref.isWhole_whole _) (iblk m c 0 t0_3) (iblk m c 1 t0_3) (fun h => absurd ((hcond0_0 t0_3).mp h) (by decide))
    ((hcond0_1 t0_3).mpr (by decide)) ((hcond0_2 t0_3).mpr rfl) _ j,
    blockTerms_eq m c t0_3 3 rfl, blockCount_eq m c t0_3 3 rfl, (after_2 m c).1, (after_2 m c).2]
  unfold loss
  rw [← sum_blocks fun i => kterm (logits m c i) (heat m c i), ← sum_blocks fun i => count (heat m c i)]

/-- What the grid writes back is the loss. -/
theorem flushed_eq (t : Fin cfg0.N) (hf : (cfg0.win 2).flush t = true) :
    (dats m 0 c).flushed 2 t = ((cfg0.win 2).blk t).view.read (Elt Ideal) (loss m c) := by
  have hN : cfg0.N = 4 := N_0
  have h3 : t.val = 3 := by have := (flush0_2 t).mp hf; have := t.isLt; omega
  obtain rfl : t = t0_3 := Fin.ext h3
  rw [Value.flushed2, after_3]
  rfl

/-- The result array ends holding the loss. -/
theorem final_loss : (dats m 0 c).arrAt 2 cfg0.N = loss m c :=
  (dats m 0 c).arrAt_eq_of_cover 2 (loss m c) (flushed_eq m c) fun i =>
    ⟨t0_3, (flush0_2 t0_3).mpr rfl, by
      show i ∈ ((View.whole main_v0).slice (win0_2.rect t0_3)).set
      rw [View.set_slice_whole, Rect.mem_set_unit]
      intro a
      have h0 : (i 0 : Nat) < 1 := (i 0).isLt
      match a with
      | (0 : Fin 1) =>
        show win0_2.index t0_3 0 * win0_2.size 0 ≤ (i 0 : Nat)
          ∧ (i 0 : Nat) < win0_2.index t0_3 0 * win0_2.size 0 + win0_2.xsize (grid0.coords t0_3) 0
        rw [show win0_2.index t0_3 0 * win0_2.size 0 = 0 from by decide +kernel,
          show win0_2.xsize (grid0.coords t0_3) 0 = 1 from by decide +kernel]
        omega⟩

/-- The kernel's run: the result at the loss, the arguments unchanged. -/
theorem run_kernel : θ_run defs (onTc (τ := τ) (main (F := Ideal))) ⟨m, fun _ => 0, ρ⟩ fun r => ∀ c : Dev nD,
      r.2.mem ((c : Thread nD τ).loc main_v0) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_loss m c), (h c).2⟩) (Value.run_blocks m ρ)

end Cert.Focal

end
-- ==== Proof.Reference.lean ====
/- The reference's run read: its one result is the loss written over the pixels of the arrays. -/
module

public import proofs.«01_k».proof.Proof.Term
public import proofs.«01_k».proof.Proof.Gen.ReferenceIdeal.Run
public import Idealize.ShloMosaic.PureOps.Ideal.Laws

@[expose] public section

noncomputable section

namespace Cert.Focal

open Idealize.ShloMosaic Idealize.ShloMosaic.TcCoe Idealize.SL.Sem
open Cert.ReferenceIdeal Cert.ReferenceIdeal.Gen

/-- The clipped probability as the reference spells it. -/
def rawProb (x : EReal) : EReal :=
  min (Ideal.ofBits .f32 0x3F800000#32 - Ideal.ofBits .f32 0x38D1B717#32) (max (Ideal.ofBits .f32 0x38D1B717#32)
    (Ideal.div (Ideal.ofBits .f32 0x3F800000#32) (Ideal.ofBits .f32 0x3F800000#32 + Ideal.exp (-x))))

/-- The mask of the positive pixels as the reference spells it. -/
def rawMask (t : EReal) : EReal :=
  (((Ideal.cmp .oge t (Ideal.ofBits .f32 0x3F800000#32)).toNat : ℝ) : EReal)

/-- A positive pixel's term as the reference spells it. -/
def rawPos (x t : EReal) : EReal :=
  Ideal.log (rawProb x) * Ideal.pow (Ideal.ofBits .f32 0x3F800000#32 - rawProb x) (Ideal.ofBits .f32 0x40000000#32)
    * rawMask t

/-- A negative pixel's term as the reference spells it. -/
def rawNeg (x t : EReal) : EReal :=
  Ideal.log (Ideal.ofBits .f32 0x3F800000#32 - rawProb x) * Ideal.pow (rawProb x) (Ideal.ofBits .f32 0x40000000#32)
    * Ideal.pow (Ideal.ofBits .f32 0x3F800000#32 - t) (Ideal.ofBits .f32 0x40800000#32)
    * (Ideal.ofBits .f32 0x3F800000#32 - rawMask t)

/-- The reference's clipped probability is the clipped probability. -/
theorem rawProb_eq (x : EReal) : rawProb x = prob x := by
  unfold rawProb prob clip
  rw [lit_one, lit_lo]

/-- The mask is the count of the pixel. -/
theorem rawMask_eq (t : EReal) : rawMask t = count t := by
  unfold rawMask count Ideal.cmp
  rw [lit_one]
  by_cases h : (1 : EReal) ≤ t <;> simp [h]

/-- One less the mask is the other mask. -/
theorem one_sub_count (t : EReal) : 1 - count t = other t := by
  unfold count other
  by_cases h : (1 : EReal) ≤ t
  · rw [if_pos h, if_neg (not_lt.mpr h)]
    exact EReal.sub_self (by decide) (by decide)
  · rw [if_neg h, if_pos (not_le.mp h), sub_zero]

/-- The reference's positive term is the positive term. -/
theorem rawPos_eq (x t : EReal) : rawPos x t = posTerm x t := by
  unfold rawPos posTerm
  rw [rawProb_eq, rawMask_eq, lit_one, lit_two]

/-- The reference's negative term is the negative term. -/
theorem rawNeg_eq (x t : EReal) : rawNeg x t = negTerm x t := by
  unfold rawNeg negTerm
  rw [rawProb_eq, rawMask_eq, lit_one, lit_two, lit_four, one_sub_count]

/-! ## The arrays -/

/-- An array over the pixels. -/
abbrev Arr : Type := FVec Ideal S16x3x128x384 .f32

/-- A literal at every pixel. -/
abbrev lit (b : BitVec 32) : Arr := broadcastInDim S16x3x128x384 ![] bcast_S_S16x3x128x384 (constant S_ .f32 b)

/-- The clipped probabilities. -/
def probs (x : Arr) : Arr :=
  minimumf (broadcastInDim S16x3x128x384 ![] bcast_S_S16x3x128x384
      (subf (constant S_ .f32 0x3F800000#32) (constant S_ .f32 0x38D1B717#32)))
    (maximumf (lit 0x38D1B717#32) (Host.divf (lit 0x3F800000#32) (addf (lit 0x3F800000#32) (Host.exp (Host.negf x)))))

/-- The mask of the positive pixels. -/
def mask (t : Arr) : Arr := uitofp .f32 (cmpf .oge t (lit 0x3F800000#32))

/-- The terms of the positive pixels. -/
def posTerms (x t : Arr) : Arr :=
  mulf (mulf (Host.log (probs x)) (Host.powf (subf (lit 0x3F800000#32) (probs x)) (lit 0x40000000#32))) (mask t)

/-- The terms of the negative pixels. -/
def negTerms (x t : Arr) : Arr :=
  mulf (mulf (mulf (Host.log (subf (lit 0x3F800000#32) (probs x))) (Host.powf (probs x) (lit 0x40000000#32)))
    (Host.powf (subf (lit 0x3F800000#32) t) (lit 0x40800000#32))) (subf (lit 0x3F800000#32) (mask t))

/-- A sum over all the pixels. -/
def total (f : Arr) : FVec Ideal S_ .f32 :=
  Host.reduceAdd f (constant S_ .f32 0x00000000#32) reducesTo_S16x3x128x384_S_d0_1_2_3 h_S_

/-- The clipped probabilities at a pixel. -/
theorem probs_apply (x : Arr) (i : S16x3x128x384.Idx) : probs x i = prob (x i) := rawProb_eq (x i)

/-- The mask at a pixel. -/
theorem mask_apply (t : Arr) (i : S16x3x128x384.Idx) : mask t i = count (t i) := rawMask_eq (t i)

/-- The positive terms at a pixel. -/
theorem posTerms_apply (x t : Arr) (i : S16x3x128x384.Idx) : posTerms x t i = posTerm (x i) (t i) := rawPos_eq (x i) (t i)

/-- The negative terms at a pixel. -/
theorem negTerms_apply (x t : Arr) (i : S16x3x128x384.Idx) : negTerms x t i = negTerm (x i) (t i) := rawNeg_eq (x i) (t i)

/-- The sum over all the pixels is the sum, started from zero. -/
theorem total_apply (f : Arr) (j : S_.Idx) : total f j = ∑ i, f i := by
  refine Eq.trans (Ideal.hostReduceAdd_total reducesTo_S16x3x128x384_S_d0_1_2_3 (fun b => b.elim0) f
    (Ideal.ofBits .f32 0x00000000#32) j) ?_
  rw [Ideal.ofBits_zero_f32, zero_add]

/-- The loss over the pixels of the arrays. -/
def refLoss (x t : S16x3x128x384.Idx → EReal) : EReal :=
  Ideal.div (-(∑ i, posTerm (x i) (t i) + ∑ i, negTerm (x i) (t i))) (max (∑ i, count (t i)) 1)

/-- The reference's last operations on three totals. -/
theorem last_apply (p n k : FVec Ideal S_ .f32) (j : S1.Idx) :
    shapeCast S1 (Host.divf (Host.negf (addf p n)) (maximumf k (constant S_ .f32 0x3F800000#32))) shapeCasts_S_S1 j
      = Ideal.div (-(p (Shape.reshapeEquiv shapeCasts_S_S1 j) + n (Shape.reshapeEquiv shapeCasts_S_S1 j)))
          (max (k (Shape.reshapeEquiv shapeCasts_S_S1 j)) (Ideal.ofBits .f32 0x3F800000#32)) := rfl

/-- The reference's last operations on the totals of its arrays. -/
theorem loss_apply (x t : Arr) (j : S1.Idx) :
    shapeCast S1 (Host.divf (Host.negf (addf (total (posTerms x t)) (total (negTerms x t))))
      (maximumf (total (mask t)) (constant S_ .f32 0x3F800000#32))) shapeCasts_S_S1 j = refLoss x t := by
  rw [last_apply]
  unfold refLoss
  simp only [total_apply, posTerms_apply, negTerms_apply, mask_apply, lit_one]

variable (m : (ℓ : Loc nD τ sig) → Buf (Elt Ideal) ℓ) (ρ : Dev nD → PrngReg)

/-- The reference's run: the result at the loss, the arguments unchanged. -/
theorem run_reference : θ_run defs (onTc (τ := τ) (main (F := Ideal))) ⟨m, fun _ => 0, ρ⟩ fun r => ∀ c : Dev nD,
      r.2.mem ((c : Thread nD τ).loc main_v39)
        = (fun _ => refLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  exact funext fun j => loss_apply (m ((c : Thread nD τ).loc main_arg0)) (m ((c : Thread nD τ).loc main_arg1)) j

end Cert.Focal

end
-- ==== Proof.Algebraic.lean ====
/- The value claim: over the extended reals the kernel and the reference return the same loss, on every pair of arrays. -/
module

public import proofs.«01_k».proof.Defs
public import proofs.«01_k».proof.Proof.Result
public import proofs.«01_k».proof.Proof.Reference

@[expose] public section

noncomputable section

namespace Cert.Focal

open Idealize.ShloMosaic Idealize.ShloMosaic.TcCoe Idealize.SL.Sem

/-- The kernel's loss of the totals is the reference's loss: the kernel's terms times `log 2` are the reference's. -/
theorem lossOf_eq (x t : Cert.ReferenceIdeal.S16x3x128x384.Idx → EReal) :
    lossOf (∑ i, kterm (x i) (t i)) (∑ i, count (t i)) = refLoss x t := by
  unfold lossOf refLoss
  rw [sum_kterm_mul_log_two, zero_sub]

/-- The kernel and the reference return the same loss. -/
theorem algebraic :
    Cert.algebraic_KernelIdeal_ReferenceIdeal (hKernelIdeal := Cert.KernelIdeal.Gen.facts)
      (hReferenceIdeal := Cert.ReferenceIdeal.Gen.facts) := by
  intro m ρ m' ρ' _ hagree
  refine ⟨fun c => loss m c, run_kernel m ρ, ?_⟩
  refine (θ_run _ _ _).mono (fun _ h c => ⟨(h c).1.trans ?_, (h c).2⟩) (run_reference m' ρ')
  obtain ⟨e0, e1⟩ := hagree c
  rw [e0, e1]
  exact funext fun _ => (lossOf_eq _ _).symm

end Cert.Focal

end
-- ==== Proof.lean ====
/- The certificate's proof: the three frames are the generated ones, the two named constants are checked by `rfl`,
   and the value claim is `Cert.Focal.algebraic` (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    ⟨IdealRules.named_const.statement _ _ _ _ _ rfl, IdealRules.named_const.statement _ _ _ _ _ rfl⟩,
    Cert.Focal.algebraic⟩

end Cert.Proof

end
